-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v49) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S128x1x28x28 : Shape := ⟨4, ![128, 1, 28, 28]⟩
abbrev S28x28x1x128 : Shape := ⟨4, ![28, 28, 1, 128]⟩
abbrev S28x28x785x128 : Shape := ⟨4, ![28, 28, 785, 128]⟩
abbrev S1x28x1x128 : Shape := ⟨4, ![1, 28, 1, 128]⟩
abbrev S1x28x785x128 : Shape := ⟨4, ![1, 28, 785, 128]⟩
abbrev S28x1x128 : Shape := ⟨3, ![28, 1, 128]⟩
abbrev S28x785x128 : Shape := ⟨3, ![28, 785, 128]⟩
abbrev S1x1x128 : Shape := ⟨3, ![1, 1, 128]⟩
abbrev S1x128 : Shape := ⟨2, ![1, 128]⟩
abbrev S1x1x1x128 : Shape := ⟨4, ![1, 1, 1, 128]⟩
abbrev S128x785x28x28 : Shape := ⟨4, ![128, 785, 28, 28]⟩

abbrev nBuf : Space → Nat
  | .hbm => 4
  | .vmem => 4
  | .smem => 0
  | _ => 0

abbrev bufTy : (tb : Table) → Fin (tcTables nBuf tb) → BufTy
  | .hbm, ⟨0, _⟩ => ⟨S128x1x28x28, .f32⟩
  | .hbm, ⟨1, _⟩ => ⟨S28x28x1x128, .f32⟩
  | .hbm, ⟨2, _⟩ => ⟨S28x28x785x128, .f32⟩
  | .hbm, ⟨3, _⟩ => ⟨S128x785x28x28, .f32⟩
  | .local _ .vmem, ⟨0, _⟩ => ⟨S1x28x1x128, .f32⟩
  | .local _ .vmem, ⟨1, _⟩ => ⟨S1x28x1x128, .f32⟩
  | .local _ .vmem, ⟨2, _⟩ => ⟨S1x28x785x128, .f32⟩
  | .local _ .vmem, ⟨3, _⟩ => ⟨S1x28x785x128, .f32⟩
  | _, _ => ⟨S128x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![28], ![false]⟩

def k0_off1 (i : grid0.Coords) : Fin 4 → Nat :=
  let c0_24 : Index := 0#32
  let c0_25 : Index := 0#32
  let c1_i32 : BitVec 32 := 1#32
  let arg0 : BitVec 32 := BitVec.ofNat 32 (i 0).val
  let c28_i32 : BitVec 32 := 28#32
  let v40 : BitVec 32 := Scalar.muli arg0 c28_i32
  let v41 : BitVec 32 := Scalar.addi c1_i32 v40
  let c0_i32 : BitVec 32 := 0#32
  let v42 : BitVec 32 := Scalar.addi v41 c0_i32
  let v45 : Index := Scalar.indexCast v42
  let c0_26 : Index := 0#32
  ![0, 0, v45.toNat, 0]
def k0_off2 (i : grid0.Coords) : Fin 4 → Nat :=
  let c0_33 : Index := 0#32
  let c1_34 : Index := 1#32
  let c1_i32_31 : BitVec 32 := 1#32
  let arg0 : BitVec 32 := BitVec.ofNat 32 (i 0).val
  let c28_i32_30 : BitVec 32 := 28#32
  let v54 : BitVec 32 := Scalar.muli arg0 c28_i32_30
  let v55 : BitVec 32 := Scalar.addi c1_i32_31 v54
  let c1_i32_32 : BitVec 32 := 1#32
  let v56 : BitVec 32 := Scalar.addi v55 c1_i32_32
  let v59 : Index := Scalar.indexCast v56
  let c0_35 : Index := 0#32
  ![0, 1, v59.toNat, 0]
def k0_off3 (i : grid0.Coords) : Fin 4 → Nat :=
  let c0_41 : Index := 0#32
  let c2_42 : Index := 2#32
  let c1_i32_40 : BitVec 32 := 1#32
  let arg0 : BitVec 32 := BitVec.ofNat 32 (i 0).val
  let c28_i32_39 : BitVec 32 := 28#32
  let v68 : BitVec 32 := Scalar.muli arg0 c28_i32_39
  let v69 : BitVec 32 := Scalar.addi c1_i32_40 v68
  let c2_i32 : BitVec 32 := 2#32
  let v70 : BitVec 32 := Scalar.addi v69 c2_i32
  let v73 : Index := Scalar.indexCast v70
  let c0_43 : Index := 0#32
  ![0, 2, v73.toNat, 0]
def k0_off4 (i : grid0.Coords) : Fin 4 → Nat :=
  let c0_49 : Index := 0#32
  let c3_50 : Index := 3#32
  let c1_i32_48 : BitVec 32 := 1#32
  let arg0 : BitVec 32 := BitVec.ofNat 32 (i 0).val
  let c28_i32_47 : BitVec 32 := 28#32
  let v82 : BitVec 32 := Scalar.muli arg0 c28_i32_47
  let v83 : BitVec 32 := Scalar.addi c1_i32_48 v82
  let c3_i32 : BitVec 32 := 3#32
  let v84 : BitVec 32 := Scalar.addi v83 c3_i32
  let v87 : Index := Scalar.indexCast v84
  let c0_51 : Index := 0#32
  ![0, 3, v87.toNat, 0]
def k0_off5 (i : grid0.Coords) : Fin 4 → Nat :=
  let c0_57 : Index := 0#32
  let c4_58 : Index := 4#32
  let c1_i32_56 : BitVec 32 := 1#32
  let arg0 : BitVec 32 := BitVec.ofNat 32 (i 0).val
  let c28_i32_55 : BitVec 32 := 28#32
  let v96 : BitVec 32 := Scalar.muli arg0 c28_i32_55
  let v97 : BitVec 32 := Scalar.addi c1_i32_56 v96
  let c4_i32 : BitVec 32 := 4#32
  let v98 : BitVec 32 := Scalar.addi v97 c4_i32
  let v101 : Index := Scalar.indexCast v98
  let c0_59 : Index := 0#32
  ![0, 4, v101.toNat, 0]
def k0_off6 (i : grid0.Coords) : Fin 4 → Nat :=
  let c0_65 : Index := 0#32
  let c5_66 : Index := 5#32
  let c1_i32_64 : BitVec 32 := 1#32
  let arg0 : BitVec 32 := BitVec.ofNat 32 (i 0).val
  let c28_i32_63 : BitVec 32 := 28#32
  let v110 : BitVec 32 := Scalar.muli arg0 c28_i32_63
  let v111 : BitVec 32 := Scalar.addi c1_i32_64 v110
  let c5_i32 : BitVec 32 := 5#32
  let v112 : BitVec 32 := Scalar.addi v111 c5_i32
  let v115 : Index := Scalar.indexCast v112
  let c0_67 : Index := 0#32
  ![0, 5, v115.toNat, 0]
def k0_off7 (i : grid0.Coords) : Fin 4 → Nat :=
  let c0_73 : Index := 0#32
  let c6_74 : Index := 6#32
  let c1_i32_72 : BitVec 32 := 1#32
  let arg0 : BitVec 32 := BitVec.ofNat 32 (i 0).val
  let c28_i32_71 : BitVec 32 := 28#32
  let v124 : BitVec 32 := Scalar.muli arg0 c28_i32_71
  let v125 : BitVec 32 := Scalar.addi c1_i32_72 v124
  let c6_i32 : BitVec 32 := 6#32
  let v126 : BitVec 32 := Scalar.addi v125 c6_i32
  let v129 : Index := Scalar.indexCast v126
  let c0_75 : Index := 0#32
  ![0, 6, v129.toNat, 0]
def k0_off8 (i : grid0.Coords) : Fin 4 → Nat :=
  let c0_81 : Index := 0#32
  let c7_82 : Index := 7#32
  let c1_i32_80 : BitVec 32 := 1#32
  let arg0 : BitVec 32 := BitVec.ofNat 32 (i 0).val
  let c28_i32_79 : BitVec 32 := 28#32
  let v138 : BitVec 32 := Scalar.muli arg0 c28_i32_79
  let v139 : BitVec 32 := Scalar.addi c1_i32_80 v138
  let c7_i32 : BitVec 32 := 7#32
  let v140 : BitVec 32 := Scalar.addi v139 c7_i32
  let v143 : Index := Scalar.indexCast v140
  let c0_83 : Index := 0#32
  ![0, 7, v143.toNat, 0]
def k0_off9 (i : grid0.Coords) : Fin 4 → Nat :=
  let c0_89 : Index := 0#32
  let c8_90 : Index := 8#32
  let c1_i32_88 : BitVec 32 := 1#32
  let arg0 : BitVec 32 := BitVec.ofNat 32 (i 0).val
  let c28_i32_87 : BitVec 32 := 28#32
  let v152 : BitVec 32 := Scalar.muli arg0 c28_i32_87
  let v153 : BitVec 32 := Scalar.addi c1_i32_88 v152
  let c8_i32 : BitVec 32 := 8#32
  let v154 : BitVec 32 := Scalar.addi v153 c8_i32
  let v157 : Index := Scalar.indexCast v154
  let c0_91 : Index := 0#32
  ![0, 8, v157.toNat, 0]
def k0_off10 (i : grid0.Coords) : Fin 4 → Nat :=
  let c0_97 : Index := 0#32
  let c9_98 : Index := 9#32
  let c1_i32_96 : BitVec 32 := 1#32
  let arg0 : BitVec 32 := BitVec.ofNat 32 (i 0).val
  let c28_i32_95 : BitVec 32 := 28#32
  let v166 : BitVec 32 := Scalar.muli arg0 c28_i32_95
  let v167 : BitVec 32 := Scalar.addi c1_i32_96 v166
  let c9_i32 : BitVec 32 := 9#32
  let v168 : BitVec 32 := Scalar.addi v167 c9_i32
  let v171 : Index := Scalar.indexCast v168
  let c0_99 : Index := 0#32
  ![0, 9, v171.toNat, 0]
def k0_off11 (i : grid0.Coords) : Fin 4 → Nat :=
  let c0_105 : Index := 0#32
  let c10_106 : Index := 10#32
  let c1_i32_104 : BitVec 32 := 1#32
  let arg0 : BitVec 32 := BitVec.ofNat 32 (i 0).val
  let c28_i32_103 : BitVec 32 := 28#32
  let v180 : BitVec 32 := Scalar.muli arg0 c28_i32_103
  let v181 : BitVec 32 := Scalar.addi c1_i32_104 v180
  let c10_i32 : BitVec 32 := 10#32
  let v182 : BitVec 32 := Scalar.addi v181 c10_i32
  let v185 : Index := Scalar.indexCast v182
  let c0_107 : Index := 0#32
  ![0, 10, v185.toNat, 0]
def k0_off12 (i : grid0.Coords) : Fin 4 → Nat :=
  let c0_113 : Index := 0#32
  let c11_114 : Index := 11#32
  let c1_i32_112 : BitVec 32 := 1#32
  let arg0 : BitVec 32 := BitVec.ofNat 32 (i 0).val
  let c28_i32_111 : BitVec 32 := 28#32
  let v194 : BitVec 32 := Scalar.muli arg0 c28_i32_111
  let v195 : BitVec 32 := Scalar.addi c1_i32_112 v194
  let c11_i32 : BitVec 32 := 11#32
  let v196 : BitVec 32 := Scalar.addi v195 c11_i32
  let v199 : Index := Scalar.indexCast v196
  let c0_115 : Index := 0#32
  ![0, 11, v199.toNat, 0]
def k0_off13 (i : grid0.Coords) : Fin 4 → Nat :=
  let c0_121 : Index := 0#32
  let c12_122 : Index := 12#32
  let c1_i32_120 : BitVec 32 := 1#32
  let arg0 : BitVec 32 := BitVec.ofNat 32 (i 0).val
  let c28_i32_119 : BitVec 32 := 28#32
  let v208 : BitVec 32 := Scalar.muli arg0 c28_i32_119
  let v209 : BitVec 32 := Scalar.addi c1_i32_120 v208
  let c12_i32 : BitVec 32 := 12#32
  let v210 : BitVec 32 := Scalar.addi v209 c12_i32
  let v213 : Index := Scalar.indexCast v210
  let c0_123 : Index := 0#32
  ![0, 12, v213.toNat, 0]
def k0_off14 (i : grid0.Coords) : Fin 4 → Nat :=
  let c0_129 : Index := 0#32
  let c13_130 : Index := 13#32
  let c1_i32_128 : BitVec 32 := 1#32
  let arg0 : BitVec 32 := BitVec.ofNat 32 (i 0).val
  let c28_i32_127 : BitVec 32 := 28#32
  let v222 : BitVec 32 := Scalar.muli arg0 c28_i32_127
  let v223 : BitVec 32 := Scalar.addi c1_i32_128 v222
  let c13_i32 : BitVec 32 := 13#32
  let v224 : BitVec 32 := Scalar.addi v223 c13_i32
  let v227 : Index := Scalar.indexCast v224
  let c0_131 : Index := 0#32
  ![0, 13, v227.toNat, 0]
def k0_off15 (i : grid0.Coords) : Fin 4 → Nat :=
  let c0_137 : Index := 0#32
  let c14_138 : Index := 14#32
  let c1_i32_136 : BitVec 32 := 1#32
  let arg0 : BitVec 32 := BitVec.ofNat 32 (i 0).val
  let c28_i32_135 : BitVec 32 := 28#32
  let v236 : BitVec 32 := Scalar.muli arg0 c28_i32_135
  let v237 : BitVec 32 := Scalar.addi c1_i32_136 v236
  let c14_i32 : BitVec 32 := 14#32
  let v238 : BitVec 32 := Scalar.addi v237 c14_i32
  let v241 : Index := Scalar.indexCast v238
  let c0_139 : Index := 0#32
  ![0, 14, v241.toNat, 0]
def k0_off16 (i : grid0.Coords) : Fin 4 → Nat :=
  let c0_145 : Index := 0#32
  let c15_146 : Index := 15#32
  let c1_i32_144 : BitVec 32 := 1#32
  let arg0 : BitVec 32 := BitVec.ofNat 32 (i 0).val
  let c28_i32_143 : BitVec 32 := 28#32
  let v250 : BitVec 32 := Scalar.muli arg0 c28_i32_143
  let v251 : BitVec 32 := Scalar.addi c1_i32_144 v250
  let c15_i32 : BitVec 32 := 15#32
  let v252 : BitVec 32 := Scalar.addi v251 c15_i32
  let v255 : Index := Scalar.indexCast v252
  let c0_147 : Index := 0#32
  ![0, 15, v255.toNat, 0]
def k0_off17 (i : grid0.Coords) : Fin 4 → Nat :=
  let c0_153 : Index := 0#32
  let c16_154 : Index := 16#32
  let c1_i32_152 : BitVec 32 := 1#32
  let arg0 : BitVec 32 := BitVec.ofNat 32 (i 0).val
  let c28_i32_151 : BitVec 32 := 28#32
  let v264 : BitVec 32 := Scalar.muli arg0 c28_i32_151
  let v265 : BitVec 32 := Scalar.addi c1_i32_152 v264
  let c16_i32 : BitVec 32 := 16#32
  let v266 : BitVec 32 := Scalar.addi v265 c16_i32
  let v269 : Index := Scalar.indexCast v266
  let c0_155 : Index := 0#32
  ![0, 16, v269.toNat, 0]
def k0_off18 (i : grid0.Coords) : Fin 4 → Nat :=
  let c0_161 : Index := 0#32
  let c17_162 : Index := 17#32
  let c1_i32_160 : BitVec 32 := 1#32
  let arg0 : BitVec 32 := BitVec.ofNat 32 (i 0).val
  let c28_i32_159 : BitVec 32 := 28#32
  let v278 : BitVec 32 := Scalar.muli arg0 c28_i32_159
  let v279 : BitVec 32 := Scalar.addi c1_i32_160 v278
  let c17_i32 : BitVec 32 := 17#32
  let v280 : BitVec 32 := Scalar.addi v279 c17_i32
  let v283 : Index := Scalar.indexCast v280
  let c0_163 : Index := 0#32
  ![0, 17, v283.toNat, 0]
def k0_off19 (i : grid0.Coords) : Fin 4 → Nat :=
  let c0_169 : Index := 0#32
  let c18_170 : Index := 18#32
  let c1_i32_168 : BitVec 32 := 1#32
  let arg0 : BitVec 32 := BitVec.ofNat 32 (i 0).val
  let c28_i32_167 : BitVec 32 := 28#32
  let v292 : BitVec 32 := Scalar.muli arg0 c28_i32_167
  let v293 : BitVec 32 := Scalar.addi c1_i32_168 v292
  let c18_i32 : BitVec 32 := 18#32
  let v294 : BitVec 32 := Scalar.addi v293 c18_i32
  let v297 : Index := Scalar.indexCast v294
  let c0_171 : Index := 0#32
  ![0, 18, v297.toNat, 0]
def k0_off20 (i : grid0.Coords) : Fin 4 → Nat :=
  let c0_177 : Index := 0#32
  let c19_178 : Index := 19#32
  let c1_i32_176 : BitVec 32 := 1#32
  let arg0 : BitVec 32 := BitVec.ofNat 32 (i 0).val
  let c28_i32_175 : BitVec 32 := 28#32
  let v306 : BitVec 32 := Scalar.muli arg0 c28_i32_175
  let v307 : BitVec 32 := Scalar.addi c1_i32_176 v306
  let c19_i32 : BitVec 32 := 19#32
  let v308 : BitVec 32 := Scalar.addi v307 c19_i32
  let v311 : Index := Scalar.indexCast v308
  let c0_179 : Index := 0#32
  ![0, 19, v311.toNat, 0]
def k0_off21 (i : grid0.Coords) : Fin 4 → Nat :=
  let c0_185 : Index := 0#32
  let c20_186 : Index := 20#32
  let c1_i32_184 : BitVec 32 := 1#32
  let arg0 : BitVec 32 := BitVec.ofNat 32 (i 0).val
  let c28_i32_183 : BitVec 32 := 28#32
  let v320 : BitVec 32 := Scalar.muli arg0 c28_i32_183
  let v321 : BitVec 32 := Scalar.addi c1_i32_184 v320
  let c20_i32 : BitVec 32 := 20#32
  let v322 : BitVec 32 := Scalar.addi v321 c20_i32
  let v325 : Index := Scalar.indexCast v322
  let c0_187 : Index := 0#32
  ![0, 20, v325.toNat, 0]
def k0_off22 (i : grid0.Coords) : Fin 4 → Nat :=
  let c0_193 : Index := 0#32
  let c21_194 : Index := 21#32
  let c1_i32_192 : BitVec 32 := 1#32
  let arg0 : BitVec 32 := BitVec.ofNat 32 (i 0).val
  let c28_i32_191 : BitVec 32 := 28#32
  let v334 : BitVec 32 := Scalar.muli arg0 c28_i32_191
  let v335 : BitVec 32 := Scalar.addi c1_i32_192 v334
  let c21_i32 : BitVec 32 := 21#32
  let v336 : BitVec 32 := Scalar.addi v335 c21_i32
  let v339 : Index := Scalar.indexCast v336
  let c0_195 : Index := 0#32
  ![0, 21, v339.toNat, 0]
def k0_off23 (i : grid0.Coords) : Fin 4 → Nat :=
  let c0_201 : Index := 0#32
  let c22_202 : Index := 22#32
  let c1_i32_200 : BitVec 32 := 1#32
  let arg0 : BitVec 32 := BitVec.ofNat 32 (i 0).val
  let c28_i32_199 : BitVec 32 := 28#32
  let v348 : BitVec 32 := Scalar.muli arg0 c28_i32_199
  let v349 : BitVec 32 := Scalar.addi c1_i32_200 v348
  let c22_i32 : BitVec 32 := 22#32
  let v350 : BitVec 32 := Scalar.addi v349 c22_i32
  let v353 : Index := Scalar.indexCast v350
  let c0_203 : Index := 0#32
  ![0, 22, v353.toNat, 0]
def k0_off24 (i : grid0.Coords) : Fin 4 → Nat :=
  let c0_209 : Index := 0#32
  let c23_210 : Index := 23#32
  let c1_i32_208 : BitVec 32 := 1#32
  let arg0 : BitVec 32 := BitVec.ofNat 32 (i 0).val
  let c28_i32_207 : BitVec 32 := 28#32
  let v362 : BitVec 32 := Scalar.muli arg0 c28_i32_207
  let v363 : BitVec 32 := Scalar.addi c1_i32_208 v362
  let c23_i32 : BitVec 32 := 23#32
  let v364 : BitVec 32 := Scalar.addi v363 c23_i32
  let v367 : Index := Scalar.indexCast v364
  let c0_211 : Index := 0#32
  ![0, 23, v367.toNat, 0]
def k0_off25 (i : grid0.Coords) : Fin 4 → Nat :=
  let c0_217 : Index := 0#32
  let c24_218 : Index := 24#32
  let c1_i32_216 : BitVec 32 := 1#32
  let arg0 : BitVec 32 := BitVec.ofNat 32 (i 0).val
  let c28_i32_215 : BitVec 32 := 28#32
  let v376 : BitVec 32 := Scalar.muli arg0 c28_i32_215
  let v377 : BitVec 32 := Scalar.addi c1_i32_216 v376
  let c24_i32 : BitVec 32 := 24#32
  let v378 : BitVec 32 := Scalar.addi v377 c24_i32
  let v381 : Index := Scalar.indexCast v378
  let c0_219 : Index := 0#32
  ![0, 24, v381.toNat, 0]
def k0_off26 (i : grid0.Coords) : Fin 4 → Nat :=
  let c0_225 : Index := 0#32
  let c25_226 : Index := 25#32
  let c1_i32_224 : BitVec 32 := 1#32
  let arg0 : BitVec 32 := BitVec.ofNat 32 (i 0).val
  let c28_i32_223 : BitVec 32 := 28#32
  let v390 : BitVec 32 := Scalar.muli arg0 c28_i32_223
  let v391 : BitVec 32 := Scalar.addi c1_i32_224 v390
  let c25_i32 : BitVec 32 := 25#32
  let v392 : BitVec 32 := Scalar.addi v391 c25_i32
  let v395 : Index := Scalar.indexCast v392
  let c0_227 : Index := 0#32
  ![0, 25, v395.toNat, 0]
def k0_off27 (i : grid0.Coords) : Fin 4 → Nat :=
  let c0_233 : Index := 0#32
  let c26_234 : Index := 26#32
  let c1_i32_232 : BitVec 32 := 1#32
  let arg0 : BitVec 32 := BitVec.ofNat 32 (i 0).val
  let c28_i32_231 : BitVec 32 := 28#32
  let v404 : BitVec 32 := Scalar.muli arg0 c28_i32_231
  let v405 : BitVec 32 := Scalar.addi c1_i32_232 v404
  let c26_i32 : BitVec 32 := 26#32
  let v406 : BitVec 32 := Scalar.addi v405 c26_i32
  let v409 : Index := Scalar.indexCast v406
  let c0_235 : Index := 0#32
  ![0, 26, v409.toNat, 0]
def k0_off28 (i : grid0.Coords) : Fin 4 → Nat :=
  let c0_241 : Index := 0#32
  let c27_242 : Index := 27#32
  let c1_i32_240 : BitVec 32 := 1#32
  let arg0 : BitVec 32 := BitVec.ofNat 32 (i 0).val
  let c28_i32_239 : BitVec 32 := 28#32
  let v418 : BitVec 32 := Scalar.muli arg0 c28_i32_239
  let v419 : BitVec 32 := Scalar.addi c1_i32_240 v418
  let c27_i32 : BitVec 32 := 27#32
  let v420 : BitVec 32 := Scalar.addi v419 c27_i32
  let v423 : Index := Scalar.indexCast v420
  let c0_243 : Index := 0#32
  ![0, 27, v423.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x28x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x28x785x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S128x1x28x28 : Shape := ⟨4, ![128, 1, 28, 28]⟩
abbrev S128x28x28 : Shape := ⟨3, ![128, 28, 28]⟩
abbrev S_ : Shape := ⟨0, ![]⟩
abbrev S128x784 : Shape := ⟨2, ![128, 784]⟩
abbrev S784 : Shape := ⟨1, ![784]⟩
abbrev S128x784x784 : Shape := ⟨3, ![128, 784, 784]⟩
abbrev S784x1 : Shape := ⟨2, ![784, 1]⟩
abbrev S784x2 : Shape := ⟨2, ![784, 2]⟩
abbrev S128x784x28x28 : Shape := ⟨4, ![128, 784, 28, 28]⟩
abbrev S128x785x28x28 : Shape := ⟨4, ![128, 785, 28, 28]⟩

abbrev nBuf : Space → Nat
  | .hbm => 69
  | .vmem => 0
  | .smem => 0
  | _ => 0

abbrev bufTy : (tb : Table) → Fin (tcTables nBuf tb) → BufTy
  | .hbm, ⟨0, _⟩ => ⟨S128x1x28x28, .f32⟩
  | .hbm, ⟨1, _⟩ => ⟨S128x28x28, .f32⟩
  | .hbm, ⟨2, _⟩ => ⟨S_, .f32⟩
  | .hbm, ⟨3, _⟩ => ⟨S128x28x28, .f32⟩
  | .hbm, ⟨4, _⟩ => ⟨S128x28x28, .i1⟩
  | .hbm, ⟨5, _⟩ => ⟨S_, .f32⟩
  | .hbm, ⟨6, _⟩ => ⟨S128x28x28, .f32⟩
  | .hbm, ⟨7, _⟩ => ⟨S128x28x28, .i1⟩
  | .hbm, ⟨8, _⟩ => ⟨S_, .f32⟩
  | .hbm, ⟨9, _⟩ => ⟨S128x28x28, .f32⟩
  | .hbm, ⟨10, _⟩ => ⟨S128x28x28, .f32⟩
  | .hbm, ⟨11, _⟩ => ⟨S_, .f32⟩
  | .hbm, ⟨12, _⟩ => ⟨S128x28x28, .f32⟩
  | .hbm, ⟨13, _⟩ => ⟨S128x28x28, .f32⟩
  | .hbm, ⟨14, _⟩ => ⟨S_, .f32⟩
  | .hbm, ⟨15, _⟩ => ⟨S128x28x28, .f32⟩
  | .hbm, ⟨16, _⟩ => ⟨S128x28x28, .f32⟩
  | .hbm, ⟨17, _⟩ => ⟨S_, .f32⟩
  | .hbm, ⟨18, _⟩ => ⟨S128x28x28, .f32⟩
  | .hbm, ⟨19, _⟩ => ⟨S128x28x28, .f32⟩
  | .hbm, ⟨20, _⟩ => ⟨S_, .f32⟩
  | .hbm, ⟨21, _⟩ => ⟨S128x28x28, .f32⟩
  | .hbm, ⟨22, _⟩ => ⟨S128x28x28, .f32⟩
  | .hbm, ⟨23, _⟩ => ⟨S128x28x28, .f32⟩
  | .hbm, ⟨24, _⟩ => ⟨S128x28x28, .f32⟩
  | .hbm, ⟨25, _⟩ => ⟨S_, .f32⟩
  | .hbm, ⟨26, _⟩ => ⟨S128x28x28, .f32⟩
  | .hbm, ⟨27, _⟩ => ⟨S128x28x28, .f32⟩
  | .hbm, ⟨28, _⟩ => ⟨S_, .f32⟩
  | .hbm, ⟨29, _⟩ => ⟨S128x28x28, .f32⟩
  | .hbm, ⟨30, _⟩ => ⟨S128x28x28, .f32⟩
  | .hbm, ⟨31, _⟩ => ⟨S_, .f32⟩
  | .hbm, ⟨32, _⟩ => ⟨S128x28x28, .f32⟩
  | .hbm, ⟨33, _⟩ => ⟨S128x28x28, .f32⟩
  | .hbm, ⟨34, _⟩ => ⟨S_, .f32⟩
  | .hbm, ⟨35, _⟩ => ⟨S128x28x28, .f32⟩
  | .hbm, ⟨36, _⟩ => ⟨S128x28x28, .f32⟩
  | .hbm, ⟨37, _⟩ => ⟨S_, .f32⟩
  | .hbm, ⟨38, _⟩ => ⟨S128x28x28, .f32⟩
  | .hbm, ⟨39, _⟩ => ⟨S128x28x28, .f32⟩
  | .hbm, ⟨40, _⟩ => ⟨S_, .f32⟩
  | .hbm, ⟨41, _⟩ => ⟨S128x28x28, .f32⟩
  | .hbm, ⟨42, _⟩ => ⟨S128x28x28, .f32⟩
  | .hbm, ⟨43, _⟩ => ⟨S128x28x28, .f32⟩
  | .hbm, ⟨44, _⟩ => ⟨S128x784, .f32⟩
  | .hbm, ⟨45, _⟩ => ⟨S784, .i32⟩
  | .hbm, ⟨46, _⟩ => ⟨S_, .f32⟩
  | .hbm, ⟨47, _⟩ => ⟨S128x784x784, .f32⟩
  | .hbm, ⟨48, _⟩ => ⟨S_, .i32⟩
  | .hbm, ⟨49, _⟩ => ⟨S784, .i32⟩
  | .hbm, ⟨50, _⟩ => ⟨S784, .i1⟩
  | .hbm, ⟨51, _⟩ => ⟨S_, .i32⟩
  | .hbm, ⟨52, _⟩ => ⟨S784, .i32⟩
  | .hbm, ⟨53, _⟩ => ⟨S784, .i32⟩
  | .hbm, ⟨54, _⟩ => ⟨S784, .i32⟩
  | .hbm, ⟨55, _⟩ => ⟨S_, .i32⟩
  | .hbm, ⟨56, _⟩ => ⟨S784, .i32⟩
  | .hbm, ⟨57, _⟩ => ⟨S784, .i1⟩
  | .hbm, ⟨58, _⟩ => ⟨S_, .i32⟩
  | .hbm, ⟨59, _⟩ => ⟨S784, .i32⟩
  | .hbm, ⟨60, _⟩ => ⟨S784, .i32⟩
  | .hbm, ⟨61, _⟩ => ⟨S784, .i32⟩
  | .hbm, ⟨62, _⟩ => ⟨S784x1, .i32⟩
  | .hbm, ⟨63, _⟩ => ⟨S784x1, .i32⟩
  | .hbm, ⟨64, _⟩ => ⟨S784x2, .i32⟩
  | .hbm, ⟨65, _⟩ => ⟨S128x784x784, .f32⟩
  | .hbm, ⟨66, _⟩ => ⟨S128x784x28x28, .f32⟩
  | .hbm, ⟨67, _⟩ => ⟨S128x1x28x28, .f32⟩
  | .hbm, ⟨68, _⟩ => ⟨S128x785x28x28, .f32⟩
  | _, _ => ⟨S128x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_cst_4 : Ref sig .tc := ⟨.hbm, 17, rfl⟩
abbrev main_v11 : Ref sig .tc := ⟨.hbm, 18, rfl⟩
abbrev main_v12 : Ref sig .tc := ⟨.hbm, 19, rfl⟩
abbrev main_cst_5 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_6 : Ref sig .tc := ⟨.hbm, 25, rfl⟩
abbrev main_v17 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_cst_8 : Ref sig .tc := ⟨.hbm, 31, rfl⟩
abbrev main_v21 : Ref sig .tc := ⟨.hbm, 32, rfl⟩
abbrev main_v22 : Ref sig .tc := ⟨.hbm, 33, rfl⟩
abbrev main_cst_9 : Ref sig .tc := ⟨.hbm, 34, rfl⟩
abbrev main_v23 : Ref sig .tc := ⟨.hbm, 35, rfl⟩
abbrev main_v24 : Ref sig .tc := ⟨.hbm, 36, rfl⟩
abbrev main_cst_10 : Ref sig .tc := ⟨.hbm, 37, rfl⟩
abbrev main_v25 : Ref sig .tc := ⟨.hbm, 38, rfl⟩
abbrev main_v26 : Ref sig .tc := ⟨.hbm, 39, rfl⟩
abbrev main_cst_11 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_12 : Ref sig .tc := ⟨.hbm, 46, rfl⟩
abbrev main_v32 : Ref sig .tc := ⟨.hbm, 47, rfl⟩
abbrev main_c : Ref sig .tc := ⟨.hbm, 48, rfl⟩
abbrev main_v33 : Ref sig .tc := ⟨.hbm, 49, rfl⟩
abbrev main_v34 : Ref sig .tc := ⟨.hbm, 50, rfl⟩
abbrev main_c_13 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_14 : Ref sig .tc := ⟨.hbm, 55, rfl⟩
abbrev main_v38 : Ref sig .tc := ⟨.hbm, 56, rfl⟩
abbrev main_v39 : Ref sig .tc := ⟨.hbm, 57, rfl⟩
abbrev main_c_15 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.Zonotope.lean ====
/-
  The zonotope both programs compute, in their own scalar operations, and the one general fact about a block filled row by row.
  Everything is stated at any carrier of the floating operations, so it serves the exact instance and the ideal one alike.
-/
module

public import Idealize.ShloMosaic.Lib.Pipeline.ValueKit
public import Idealize.ShloMosaic.Lib.Pointwise

@[expose] public section

set_option maxRecDepth 16384

noncomputable section

namespace Cert.Zonotope

open Idealize.ShloMosaic

/-- One block of the result as the kernel holds it: one image row, its 28 pixels, the 785 channels, the 128 images. -/
abbrev Blk : Shape := ⟨4, ![1, 28, 785, 128]⟩
/-- What one store writes: one pixel's entry of one channel, over the 128 images. -/
abbrev Lane : Shape := ⟨4, ![1, 1, 1, 128]⟩
/-- One image row of pixels, over the 128 images. -/
abbrev Pix : Shape := ⟨3, ![28, 1, 128]⟩
/-- The images. -/
abbrev Img : Shape := ⟨4, ![128, 1, 28, 28]⟩
/-- The zonotopes of the images. -/
abbrev Zon : Shape := ⟨4, ![128, 785, 28, 28]⟩

variable {F : FTy → Type} [FloatOps F]

/-- The centre a pixel of value `p` gets: half of `p + 0.1` when it lies below `0.1`, half of `p + 1 - 0.1` when it lies above `0.9`, else `p`. -/
def centre (p : F .f32) : F .f32 :=
  Scalar.select (FloatOps.cmpf .olt p (Scalar.ofBits .f32 0x3DCCCCCD#32))
    (FloatOps.mulf (FloatOps.addf p (Scalar.ofBits .f32 0x3DCCCCCD#32)) (Scalar.ofBits .f32 0x3F000000#32))
    (Scalar.select (FloatOps.cmpf .ogt p (Scalar.ofBits .f32 0x3F666666#32))
      (FloatOps.mulf (FloatOps.subf (FloatOps.addf p (Scalar.ofBits .f32 0x3F800000#32)) (Scalar.ofBits .f32 0x3DCCCCCD#32)) (Scalar.ofBits .f32 0x3F000000#32))
      p)

/-- The error radius a pixel of value `p` gets: half of `0.1 + p` when it lies below `0.1`, half of `1 - p + 0.1` when it lies above `0.9`, else `0.1`. -/
def radius (p : F .f32) : F .f32 :=
  Scalar.select (FloatOps.cmpf .olt p (Scalar.ofBits .f32 0x3DCCCCCD#32))
    (FloatOps.mulf (FloatOps.addf (Scalar.ofBits .f32 0x3DCCCCCD#32) p) (Scalar.ofBits .f32 0x3F000000#32))
    (Scalar.select (FloatOps.cmpf .ogt p (Scalar.ofBits .f32 0x3F666666#32))
      (FloatOps.mulf (FloatOps.addf (FloatOps.subf (Scalar.ofBits .f32 0x3F800000#32) p) (Scalar.ofBits .f32 0x3DCCCCCD#32)) (Scalar.ofBits .f32 0x3F000000#32))
      (Scalar.ofBits .f32 0x3DCCCCCD#32))

/-- The zonotope of the images `X`: channel 0 is each pixel's centre, channel `1 + 28 h + w` is zero but at pixel `(h, w)`, where it is that pixel's radius. -/
def zonotope (X : FVec F Img .f32) : FVec F Zon .f32 := fun i =>
  if (i 1).val = 0 then centre (X (ix4 (i 0) 0 (i 2) (i 3)))
  else if (i 1).val = 1 + 28 * (i 2).val + (i 3).val then radius (X (ix4 (i 0) 0 (i 2) (i 3)))
  else Scalar.ofBits .f32 0x00000000#32

/-- Block `h` of the zonotope, over the vector `v` of the row's centres and the vector `e` of its radii. -/
def block (h : Nat) (v e : FVec F Pix .f32) : FVec F Blk .f32 := fun y =>
  if (y 2).val = 0 then v (ix3 (y 1) 0 (y 3))
  else if (y 2).val = 28 * h + ((y 1).val + 1) then e (ix3 (y 1) 0 (y 3))
  else Scalar.ofBits .f32 0x00000000#32

/-- The stores `L`, the last one first, leave the pixels below `n` at `G` and the others at zero. -/
def Filled (n : Nat) (G : FVec F Blk .f32) (L : List (View.Piece (Elt F) Blk .f32)) : Prop :=
  ∀ y : Blk.Idx, View.canon L y = if (y 1).val < n then G y else (Scalar.ofBits .f32 0x00000000#32 : F .f32)

/-- A pixel's line lies inside the row. -/
theorem slices_pix (n : Nat) (hn : n < 28) : Pix.Slices ![n, 0, 0] ⟨3, ![1, 1, 128]⟩ := by
  refine ⟨rfl, fun a => ?_⟩
  match a with
  | ⟨0, _⟩ => exact Nat.succ_le_of_lt hn
  | ⟨1, _⟩ => exact Nat.le_refl 1
  | ⟨2, _⟩ => exact Nat.le_refl 128

/-- Pixel `n`'s line of a row vector, in the shape a store takes. -/
abbrev lane (n : Nat) (hn : n < 28) (v : FVec F Pix .f32) : FVec F Lane .f32 :=
  shapeCast Lane (shapeCast ⟨2, ![1, 128]⟩ (extractStridedSlice ⟨3, ![1, 1, 128]⟩ ![n, 0, 0] v (slices_pix n hn)) (by decide)) (by decide)

/-- It is that vector at the pixel. -/
theorem lane_apply (n : Nat) (hn : n < 28) (v : FVec F Pix .f32) (x : Lane.Idx) : lane n hn v x = v (ix3 ⟨n, hn⟩ 0 (x 3)) := by
  idx_vars x
  pointwise [lane]

/-- A store of one line at pixel `n` and channel `k`, the last one made, read back: its payload there, the earlier stores elsewhere. -/
theorem canon_lane (n k : Nat) (L : List (View.Piece (Elt F) Blk .f32)) (off : Fin 4 → Nat) (hoff : off = ![0, n, k, 0]) (inb) (p : FVec F Lane .f32) (y : Blk.Idx) :
    View.canon (⟨Rect.unit (s := Blk) off Lane.size inb, p⟩ :: L) y
      = if (y 1).val = n ∧ (y 2).val = k then p (ix4 0 0 0 (y 3)) else View.canon L y := by
  subst hoff
  by_cases hm : y ∈ (Rect.unit (s := Blk) ![0, n, k, 0] Lane.size inb).set
  · have h := Rect.mem_set_unit.1 hm
    have h1 : n ≤ (y 1).val ∧ (y 1).val < n + 1 := h 1
    have h2 : k ≤ (y 2).val ∧ (y 2).val < k + 1 := h 2
    rw [if_pos ⟨by omega, by omega⟩]
    obtain ⟨x, rfl⟩ := (Rect.unit (s := Blk) ![0, n, k, 0] Lane.size inb).exists_idx_of_mem hm
    refine (View.canon_cons_emb _ _ _ x).trans (congrArg p ?_)
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ =>
      refine Fin.ext ?_
      show (x 3).val = 0 + 1 * (x 3).val
      omega
  · refine (View.canon_cons_of_not_mem (⟨Rect.unit (s := Blk) ![0, n, k, 0] Lane.size inb, p⟩ : View.Piece (Elt F) Blk .f32) L hm).trans (if_neg ?_).symm
    rintro ⟨h1, h2⟩
    refine hm (Rect.mem_set_unit.2 fun a => ?_)
    match a with
    | ⟨0, _⟩ => exact ⟨Nat.zero_le (y 0).val, (y 0).isLt⟩
    | ⟨1, _⟩ => exact ⟨h1.ge, Nat.lt_succ_of_le h1.le⟩
    | ⟨2, _⟩ => exact ⟨h2.ge, Nat.lt_succ_of_le h2.le⟩
    | ⟨3, _⟩ => exact ⟨Nat.zero_le (y 3).val, (y 3).isLt⟩

/-- The store of zeros over the whole block fills no pixel. -/
theorem filled_zero (G : FVec F Blk .f32) (off : Fin 4 → Nat) (hoff : off = fun _ => 0) (inb) (p : FVec F Blk .f32) (hp : ∀ y, p y = Scalar.ofBits .f32 0x00000000#32) :
    Filled 0 G [⟨Rect.unit (s := Blk) off Blk.size inb, p⟩] := by
  intro y
  rw [if_neg (Nat.not_lt_zero _)]
  exact (congrFun (View.canon_unit_zero (Val := Elt F) (S := Blk) (e := .f32) hoff inb p) y).trans (hp y)

/-- A block filled at all its 28 pixels is the function it was filled with. -/
theorem Filled.whole {G : FVec F Blk .f32} {L : List (View.Piece (Elt F) Blk .f32)} (h : Filled 28 G L) (y : Blk.Idx) : View.canon L y = G y :=
  (h y).trans (if_pos (y 1).isLt)

/-- Pixel `n`'s two stores, its centre to channel 0 and its radius to channel `28 h + n + 1`, take a block filled below `n` to one filled below `n + 1`. -/
theorem filled_succ (n h : Nat) (hn : n < 28) (v e : FVec F Pix .f32) (L : List (View.Piece (Elt F) Blk .f32)) (off : Fin 4 → Nat) (hoff : off = ![0, n, 28 * h + (n + 1), 0])
    (inbE) (inbC) (hL : Filled n (block h v e) L) :
    Filled (n + 1) (block h v e)
      (⟨Rect.unit (s := Blk) off Lane.size inbE, lane n hn e⟩ :: ⟨Rect.unit (s := Blk) ![0, n, 0, 0] Lane.size inbC, lane n hn v⟩ :: L) := by
  intro y
  rw [canon_lane n (28 * h + (n + 1)) _ off hoff, canon_lane n 0 _ _ rfl, hL y, lane_apply n hn, lane_apply n hn]
  by_cases h1 : (y 1).val = n
  · have e1 : (⟨n, hn⟩ : Fin 28) = y 1 := Fin.ext h1.symm
    rw [e1, if_neg (show ¬(y 1).val < n by omega), if_pos (show (y 1).val < n + 1 by omega)]
    unfold block
    rw [h1]
    by_cases h2 : (y 2).val = 0
    · rw [if_neg (fun h' => absurd (h'.2.symm.trans h2) (Nat.succ_ne_zero _)), if_pos ⟨rfl, h2⟩, if_pos h2]; rfl
    · rw [if_neg (c := _ ∧ (y 2).val = 0) (fun h' => h2 h'.2), if_neg h2]
      by_cases h3 : (y 2).val = 28 * h + (n + 1)
      · rw [if_pos ⟨rfl, h3⟩, if_pos h3]; rfl
      · rw [if_neg (fun h' => h3 h'.2), if_neg h3]
  · rw [if_neg (fun h' => h1 h'.1), if_neg (fun h' => h1 h'.1)]
    by_cases h2 : (y 1).val < n
    · rw [if_pos h2, if_pos (Nat.lt_succ_of_lt h2)]
    · rw [if_neg h2, if_neg (fun h' => h1 (Nat.le_antisymm (Nat.le_of_lt_succ h') (Nat.le_of_not_lt h2)))]

/-- The zonotope laid out as the kernel writes it: image row, pixel, channel, image. -/
def laid (X : FVec F Img .f32) : FVec F ⟨4, ![28, 28, 785, 128]⟩ .f32 := fun i => zonotope X (ix4 (i 3) (i 2) (i 0) (i 1))

/-- Block `h` over the centres and the radii of image row `h` is that row of the zonotope so laid out. -/
theorem block_eq_laid (X : FVec F Img .f32) (h : Fin 28) (v e : FVec F Pix .f32) (hv : ∀ w b, v (ix3 w 0 b) = centre (X (ix4 b 0 h w)))
    (he : ∀ w b, e (ix3 w 0 b) = radius (X (ix4 b 0 h w))) (y : Blk.Idx) : block h.val v e y = laid X (ix4 h (y 1) (y 2) (y 3)) := by
  idx_vars y
  show (if y2.val = 0 then v (ix3 y1 0 y3) else if y2.val = 28 * h.val + (y1.val + 1) then e (ix3 y1 0 y3) else _)
    = if y2.val = 0 then centre (X (ix4 y3 0 h y1)) else if y2.val = 1 + 28 * h.val + y1.val then radius (X (ix4 y3 0 h y1)) else _
  rw [hv, he, show 28 * h.val + (y1.val + 1) = 1 + 28 * h.val + y1.val by omega]

end Cert.Zonotope

end
-- ==== Proof.KernelValue.lean ====
/-
  What the idealized kernel's run leaves in its result: the zonotope of its argument.
-/
module

public import proofs.«01_k».proof.Proof.Gen.KernelIdeal.Frame
public import proofs.«01_k».proof.Proof.Zonotope

@[expose] public section

set_option maxRecDepth 16384

noncomputable section

namespace Cert.KernelIdeal.Zono

open Cert.KernelIdeal Cert.KernelIdeal.Gen Cert.Zonotope Idealize.ShloMosaic Idealize.ShloMosaic.TcCoe Idealize.ShloMosaic.Tactic Idealize.SL.Sem

variable {F : FTy → Type} [FloatOps F]
variable (m : (ℓ : Loc nD τ sig) → Buf (Elt F) ℓ)

/-- The body leaves the point's block of the zonotope: its zeros, then pixel by pixel the centre and the radius. -/
theorem body_block (c : Dev nD) (t : Fin cfg0.N) (y : S1x28x785x128.Idx) :
    outsAt0 m c t y = block (grid0.coords t 0).val (k0_pay5 (iblk m c 0 t)) (k0_pay6 (iblk m c 0 t)) y := by
  unfold outsAt0
  frame_out
  generalize iblk m c 0 t = x0
  refine Filled.whole (G := block (grid0.coords t 0).val (k0_pay5 x0) (k0_pay6 x0)) ?_ y
  iterate 28 refine filled_succ _ _ (by decide) _ _ _ _ ClosedOff.eq _ _ ?_
  refine filled_zero _ _ (by funext a; fin_cases a <;> rfl) _ _ fun y => ?_
  idx_vars y
  pointwise [k0_pay7]

/-- Window 0's block at point `t` is image row `t`, -/
theorem index_in : ∀ t : Fin cfg0.N, win0_0.index t = ![(grid0.coords t 0).val, 0, 0, 0] := (by decide +kernel : ∀ t : Fin grid0.N, _)
/-- and so is window 1's. -/
theorem index_out : ∀ t : Fin cfg0.N, win0_1.index t = ![(grid0.coords t 0).val, 0, 0, 0] := (by decide +kernel : ∀ t : Fin grid0.N, _)

/-- The region finds its input array holding the images laid out row, pixel, unit, image. -/
theorem entry_in (c : Dev nD) : V m c main_v0 = transpose S28x28x1x128 [2, 3, 1, 0] (m ((c : Thread nD τ).loc main_arg0)) transposes_S128x1x28x28_S28x28x1x128_2_3_1_0 := by
  unfold V V0
  simp only [List.flatten_cons, List.flatten_nil, List.append_nil]
  after_results
  try rfl

/-- The images so laid out, read at a pixel. -/
theorem images_apply (X : FVec F S128x1x28x28 .f32) (h w : Fin 28) (b : Fin 128) :
    transpose S28x28x1x128 [2, 3, 1, 0] X transposes_S128x1x28x28_S28x28x1x128_2_3_1_0 (ix4 h w 0 b) = X (ix4 b 0 h w) := by
  pointwise

/-- The input block at point `t`, read at a pixel: the argument there. -/
theorem block_in (c : Dev nD) (t : Fin cfg0.N) (w : Fin 28) (b : Fin 128) :
    iblk m c 0 t (ix4 0 w 0 b) = m ((c : Thread nD τ).loc main_arg0) (ix4 b 0 ((grid0.coords t 0)) w) := by
  blk_simp [iblk]
  have e : (win0_0.blk t).view.emb (ix4 0 w 0 b) = ix4 (grid0.coords t 0) w 0 b := by
    blk_ext [index_in t]
  rw [e, entry_in]
  exact images_apply _ _ _ _

/-- The row of centres, read at a pixel. -/
theorem centres_apply (x0 : FVec F S1x28x1x128 .f32) (w : Fin 28) (b : Fin 128) : k0_pay5 x0 (ix3 w 0 b) = centre (x0 (ix4 0 w 0 b)) := by
  pointwise [k0_pay5, k0_pay4, k0_pay3, k0_pay2, centre]

/-- The row of radii, read at a pixel. -/
theorem radii_apply (x0 : FVec F S1x28x1x128 .f32) (w : Fin 28) (b : Fin 128) : k0_pay6 x0 (ix3 w 0 b) = radius (x0 (ix4 0 w 0 b)) := by
  pointwise [k0_pay6, k0_pay4, k0_pay3, k0_pay2, radius]

/-- The region leaves the zonotope of the argument in its result array. -/
theorem array_out (c : Dev nD) : (dats m 0 c).arrAt 1 cfg0.N = laid (m ((c : Thread nD τ).loc main_arg0)) := by
  refine (dats m 0 c).arrAt_eq_of_covers 1 _ (by decide +kernel) fun t hf y => ?_
  blk_simp
  rw [after0_1]
  refine (body_block m c t y).trans ?_
  have e : (win0_1.blk t).view.emb y = ix4 (grid0.coords t 0) (y 1) (y 2) (y 3) := by
    blk_ext [index_out t]
  exact (block_eq_laid (m ((c : Thread nD τ).loc main_arg0)) (grid0.coords t 0) _ _ (fun w b => (centres_apply _ w b).trans (congrArg centre (block_in m c t w b)))
    (fun w b => (radii_apply _ w b).trans (congrArg radius (block_in m c t w b))) y).trans (congrArg _ e.symm)

/-- The result: the array the region leaves, laid out image, channel, row, pixel, is the zonotope of the argument. -/
theorem result (c : Dev nD) : transpose S128x785x28x28 [3, 2, 0, 1] ((dats m 0 c).arrAt 1 cfg0.N) transposes_S28x28x785x128_S128x785x28x28_3_2_0_1
    = zonotope (m ((c : Thread nD τ).loc main_arg0)) := by
  rw [array_out]
  funext i
  idx_vars i
  pointwise [laid]

variable (ρ : Dev nD → PrngReg)

/-- The run: the result is the zonotope of the argument, which ends as it was. -/
theorem run : θ_run defs (onTc (τ := τ) (main (F := F))) ⟨m, fun _ => 0, ρ⟩ fun r => ∀ c : Dev nD,
      r.2.mem ((c : Thread nD τ).loc main_v2) = zonotope (m ((c : Thread nD τ).loc main_arg0))
      ∧ r.2.mem ((c : Thread nD τ).loc main_arg0) = m ((c : Thread nD τ).loc main_arg0) := by
  run_from run_main m ρ & unchanged m ρ
  refine Eq.trans ?_ (result m c)
  unfold Pipeline.afterTail₀
  simp only [List.flatten_cons, List.flatten_nil, List.append_nil]
  after_results
  exact congrArg (fun A => transpose S128x785x28x28 [3, 2, 0, 1] A transposes_S28x28x785x128_S128x785x28x28_3_2_0_1)
    (Pipeline.withArrays_arr spec0 launch0.win.arr_inj c (V0 m c) (fun w => (dats m 0 c).arrAt w cfg0.N) 1)

end Cert.KernelIdeal.Zono
end
-- ==== Proof.Diagonal.lean ====
/-
  The reference's way to the zonotope: the radii scattered onto a diagonal of a zero array, and the centres put before it as channel 0.
-/
module

public import proofs.«01_k».proof.Proof.Zonotope
public import Idealize.ShloMosaic.Lib.Routing.OpsSet

@[expose] public section

set_option maxRecDepth 16384

noncomputable section

namespace Cert.Zonotope

open Idealize.ShloMosaic

/-- How the scatter addresses: update `(b, q)` goes to image `b`, at the row and the column that the two index words of `q` name. -/
abbrev dims : ScatterDims ⟨3, ![128, 784, 784]⟩ ⟨2, ![784, 2]⟩ ⟨2, ![128, 784]⟩ where
  updateWindowDims := [0]
  insertedWindowDims := [1, 2]
  scatterDimsToOperandDims := [1, 2]
  indexVectorDim := 1

/-- With both index words of `q` equal to `q`, update `(b, q)` lands on the diagonal at `q`. -/
theorem lands_diagonal (idx : IVec ⟨2, ![784, 2]⟩ 32) (hidx : ∀ (q : Fin 784) (k : Fin 2), idx (ix2 q k) = BitVec.ofNat 32 q.val) (b : Fin 128) (q : Fin 784) :
    dims.resultIdx? (ix2 b q) idx = some (ix3 b q q) := by
  have hword (j : (⟨2, ![784, 2]⟩ : Shape).Idx) (hj : j 0 = q) : (idx j).toInt = (q.val : Int) := by
    subst hj
    have e : idx j = BitVec.ofNat 32 (j 0).val := by
      rw [eq_ix2 j]
      exact hidx (j 0) (j 1)
    rw [e]
    exact StableHlo.Predicate.toInt_ofNat_small _ (lt_trans (j 0).isLt (by decide : (784 : Nat) < 2 ^ 31))
  have h0 : dims.start (ix2 b q) idx 0 = 0 := by
    unfold ScatterDims.start
    rw [dif_neg (by decide)]
  have h1 : dims.start (ix2 b q) idx 1 = q.val := by
    unfold ScatterDims.start
    rw [dif_pos (by decide)]
    exact hword _ rfl
  have h2 : dims.start (ix2 b q) idx 2 = q.val := by
    unfold ScatterDims.start
    rw [dif_pos (by decide)]
    exact hword _ rfl
  have w0 : dims.window (ix2 b q) 0 = b.val := by
    unfold ScatterDims.window
    rw [dif_pos (by decide)]
    rfl
  have w1 : dims.window (ix2 b q) 1 = 0 := by
    unfold ScatterDims.window
    rw [dif_neg (by decide)]
  have w2 : dims.window (ix2 b q) 2 = 0 := by
    unfold ScatterDims.window
    rw [dif_neg (by decide)]
  have e0 : dims.start (ix2 b q) idx 0 + dims.window (ix2 b q) 0 = b.val := by rw [h0, w0]; exact Int.zero_add _
  have e1 : dims.start (ix2 b q) idx 1 + dims.window (ix2 b q) 1 = q.val := by rw [h1, w1]; exact Int.add_zero _
  have e2 : dims.start (ix2 b q) idx 2 + dims.window (ix2 b q) 2 = q.val := by rw [h2, w2]; exact Int.add_zero _
  unfold ScatterDims.resultIdx?
  rw [dif_pos]
  · refine congrArg some (funext fun a => Fin.ext ?_)
    match a with
    | ⟨0, _⟩ => exact (congrArg Int.toNat e0).trans (Int.toNat_natCast _)
    | ⟨1, _⟩ => exact (congrArg Int.toNat e1).trans (Int.toNat_natCast _)
    | ⟨2, _⟩ => exact (congrArg Int.toNat e2).trans (Int.toNat_natCast _)
  · intro a
    match a with
    | ⟨0, _⟩ => exact ⟨e0.ge.trans' (Int.natCast_nonneg _), e0.le.trans_lt (Int.ofNat_lt.2 b.isLt)⟩
    | ⟨1, _⟩ => exact ⟨e1.ge.trans' (Int.natCast_nonneg _), e1.le.trans_lt (Int.ofNat_lt.2 q.isLt)⟩
    | ⟨2, _⟩ => exact ⟨e2.ge.trans' (Int.natCast_nonneg _), e2.le.trans_lt (Int.ofNat_lt.2 q.isLt)⟩

/-- So the scatter writes update `(b, q)` at the diagonal entry `(b, q, q)` and leaves the rest of the operand. -/
theorem scatter_diagonal {α : Type} (x0 : (⟨3, ![128, 784, 784]⟩ : Shape).Idx → α) (idx : IVec ⟨2, ![784, 2]⟩ 32)
    (hidx : ∀ (q : Fin 784) (k : Fin 2), idx (ix2 q k) = BitVec.ofNat 32 q.val) (upd : (⟨2, ![128, 784]⟩ : Shape).Idx → α) (b : Fin 128) (p q : Fin 784) :
    Host.scatter dims (fun _ b => b) x0 idx upd (ix3 b p q) = if p = q then upd (ix2 b q) else x0 (ix3 b p q) := by
  have land (k : (⟨2, ![128, 784]⟩ : Shape).Idx) (hk : dims.resultIdx? k idx = some (ix3 b p q)) : k = ix2 b q ∧ p = q := by
    idx_vars k
    have e := Option.some.inj ((lands_diagonal idx hidx k0 k1).symm.trans hk)
    have e0 : k0 = b := congrFun e 0
    have e1 : k1 = p := congrFun e 1
    have e2 : k1 = q := congrFun e 2
    exact ⟨by rw [e0, e2], e1.symm.trans e2⟩
  by_cases h : p = q
  · rw [if_pos h]
    subst h
    exact Routing.scatter_set_hit dims x0 idx upd _ _ (fun k hk => congrArg upd (land k hk).1) (ix2 b p) (lands_diagonal idx hidx b p)
  · rw [if_neg h]
    exact Routing.scatter_set_miss dims x0 idx upd _ fun k hk => h (land k hk).2

/-- The two columns of index words, each word `q` at row `q`, put side by side. -/
theorem pair_apply (u v : IVec ⟨2, ![784, 1]⟩ 32) (hu : ∀ q j, u (ix2 q j) = BitVec.ofNat 32 q.val) (hv : ∀ q j, v (ix2 q j) = BitVec.ofNat 32 q.val) (h) (q : Fin 784) (k : Fin 2) :
    concatenate ⟨2, ![784, 2]⟩ 1 [⟨⟨2, ![784, 1]⟩, u⟩, ⟨⟨2, ![784, 1]⟩, v⟩] h (ix2 q k) = BitVec.ofNat 32 q.val := by
  pointwise [hu, hv]
  exact ite_self _

/-- A row number below 784 is not negative, so wrapping it leaves it. -/
theorem wrap_eq : ∀ q : Fin 784, Scalar.select (IntOp.cmpi .slt (BitVec.ofNat 32 q.val) 0#32) (IntOp.addi (BitVec.ofNat 32 q.val) 784#32) (BitVec.ofNat 32 q.val)
    = BitVec.ofNat 32 q.val := by
  decide +kernel

/-- The row numbers below 784, one word each. -/
abbrev rows : IVec ⟨1, ![784]⟩ 32 := iotaInDim ⟨1, ![784]⟩ 32 0
/-- One word at every row. -/
abbrev every (k : BitVec 32) : IVec ⟨1, ![784]⟩ 32 := broadcastInDim ⟨1, ![784]⟩ ![] (by decide) (constantI ⟨0, ![]⟩ 32 k)
/-- A column of index words: the row numbers, a negative one wrapped round. -/
def column : IVec ⟨2, ![784, 1]⟩ 32 :=
  broadcastInDim ⟨2, ![784, 1]⟩ ![0] (by decide) (select (cmpi .slt rows (every 0#32)) (addi rows (every 784#32)) rows)

/-- The word of row `q` is `q`. -/
theorem column_apply (q : Fin 784) (j : Fin 1) : column (ix2 q j) = BitVec.ofNat 32 q.val := by
  pointwise [column]
  exact wrap_eq q

variable {F : FTy → Type} [FloatOps F]

/-- The pixels of the images, the one-channel axis dropped. -/
abbrev Plane : Shape := ⟨3, ![128, 28, 28]⟩
/-- One number at every pixel. -/
abbrev lit (b : BitVec 32) : FVec F Plane .f32 := broadcastInDim Plane ![] (by decide) (constant ⟨0, ![]⟩ .f32 b)
/-- The images' pixels. -/
abbrev plane (X : FVec F Img .f32) : FVec F Plane .f32 := shapeCast Plane X (by decide)

/-- The centres, as the reference composes them. -/
def centres (X : FVec F Img .f32) : FVec F Plane .f32 :=
  select (cmpf .olt (plane X) (lit 0x3DCCCCCD#32)) (mulf (addf (plane X) (lit 0x3DCCCCCD#32)) (lit 0x3F000000#32))
    (select (cmpf .ogt (plane X) (lit 0x3F666666#32)) (mulf (subf (addf (plane X) (lit 0x3F800000#32)) (lit 0x3DCCCCCD#32)) (lit 0x3F000000#32)) (plane X))

/-- The radii, as the reference composes them. -/
def radii (X : FVec F Img .f32) : FVec F Plane .f32 :=
  select (cmpf .olt (plane X) (lit 0x3DCCCCCD#32)) (mulf (addf (lit 0x3DCCCCCD#32) (plane X)) (lit 0x3F000000#32))
    (select (cmpf .ogt (plane X) (lit 0x3F666666#32)) (mulf (addf (subf (lit 0x3F800000#32) (plane X)) (lit 0x3DCCCCCD#32)) (lit 0x3F000000#32)) (lit 0x3DCCCCCD#32))

/-- The composed centres, read at a pixel. -/
theorem centres_apply (X : FVec F Img .f32) (b : Fin 128) (h w : Fin 28) : centres X (ix3 b h w) = centre (X (ix4 b 0 h w)) := by
  pointwise [centres, centre]

/-- The composed radii, read at a pixel. -/
theorem radii_apply (X : FVec F Img .f32) (b : Fin 128) (h w : Fin 28) : radii X (ix3 b h w) = radius (X (ix4 b 0 h w)) := by
  pointwise [radii, radius]

/-- The zeros the radii are scattered into. -/
def zeros : FVec F ⟨3, ![128, 784, 784]⟩ .f32 := broadcastInDim ⟨3, ![128, 784, 784]⟩ ![] (by decide) (constant ⟨0, ![]⟩ .f32 0x00000000#32)

/-- They are zero. -/
theorem zeros_apply (i : (⟨3, ![128, 784, 784]⟩ : Shape).Idx) : zeros (F := F) i = Scalar.ofBits .f32 0x00000000#32 := by
  idx_vars i
  pointwise [zeros]

/-- Centres as channel 0, and after them the radii scattered onto the diagonal of zeros, make the zonotope. -/
theorem concat_eq_zonotope (X : FVec F Img .f32) (hb) (h₀) (h₁) (h₂) (h₃) :
    concatenate Zon 1 [⟨⟨4, ![128, 1, 28, 28]⟩, broadcastInDim ⟨4, ![128, 1, 28, 28]⟩ ![0, 2, 3] hb (centres X)⟩,
      ⟨⟨4, ![128, 784, 28, 28]⟩, shapeCast ⟨4, ![128, 784, 28, 28]⟩ (Host.scatter dims (fun _ b => b) zeros
        (concatenate ⟨2, ![784, 2]⟩ 1 [⟨⟨2, ![784, 1]⟩, column⟩, ⟨⟨2, ![784, 1]⟩, column⟩] h₀) (shapeCast ⟨2, ![128, 784]⟩ (radii X) h₁)) h₂⟩] h₃
      = zonotope X := by
  funext i
  idx_vars i
  pointwise [scatter_diagonal _ _ (pair_apply column column column_apply column_apply h₀), centres_apply, radii_apply, zeros_apply, zonotope]
  by_cases h : i1.val = 0
  · rw [dif_pos (by omega), if_pos h]
  · rw [dif_neg (by omega), if_neg h]
    refine if_congr (Fin.ext_iff.trans ?_) rfl rfl
    show i1.val - 1 = i2.val * 28 + i3.val ↔ _
    omega

end Cert.Zonotope

end
-- ==== Proof.ReferenceValue.lean ====
/-
  What the idealized reference's run leaves in its result: the zonotope of its argument.
-/
module

public import proofs.«01_k».proof.Proof.Gen.ReferenceIdeal.Run
public import proofs.«01_k».proof.Proof.Diagonal

@[expose] public section

set_option maxRecDepth 16384

noncomputable section

namespace Cert.ReferenceIdeal.Zono

open Cert.ReferenceIdeal Cert.Zonotope Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The run: the result is the zonotope of the argument, which ends as it was. -/
theorem run : θ_run defs (onTc (τ := τ) (main (F := F))) ⟨m, fun _ => 0, ρ⟩ fun r => ∀ c : Dev nD,
      r.2.mem ((c : Thread nD τ).loc main_v49) = zonotope (m ((c : Thread nD τ).loc main_arg0))
      ∧ r.2.mem ((c : Thread nD τ).loc main_arg0) = m ((c : Thread nD τ).loc main_arg0) := by
  run_from Cert.ReferenceIdeal.Value.run m ρ
  exact concat_eq_zonotope (m ((c : Thread nD τ).loc main_arg0)) _ _ _ _ _

end Cert.ReferenceIdeal.Zono
end
-- ==== Proof.Twins.lean ====
/-
  The programs as printed, read at any floats: they leave what their idealized texts leave.
  The ideal pass rewrote no operation, so each pair of programs is one program under two names.
-/
module

public import proofs.«01_k».proof.Proof.Gen.Kernel.Frame
public import proofs.«01_k».proof.Proof.Gen.Reference.Run
public import proofs.«01_k».proof.Proof.KernelValue
public import proofs.«01_k».proof.Proof.ReferenceValue

@[expose] public section

set_option maxRecDepth 16384

noncomputable section

open Cert.Zonotope Idealize.ShloMosaic Idealize.ShloMosaic.TcCoe Idealize.ShloMosaic.Tactic Idealize.SL.Sem

variable {F : FTy → Type} [FloatOps F]

namespace Cert.Reference.Zono

open Cert.Reference

/-- The reference as printed: its result is the zonotope of the argument, which ends as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v49) = zonotope (m ((c : Thread nD τ).loc main_arg0))
      ∧ r.2.mem ((c : Thread nD τ).loc main_arg0) = m ((c : Thread nD τ).loc main_arg0) :=
  Cert.ReferenceIdeal.Zono.run m ρ

end Cert.Reference.Zono

namespace Cert.Kernel.Zono

open Cert.Kernel

set_option smartUnfolding false in
/-- The two printed kernels have one and the same body. -/
theorem body_same : defs₀ (F := F) = Cert.KernelIdeal.defs₀ := rfl

/-- And so the same table of bodies. -/
theorem defs_same : defs (F := F) = Cert.KernelIdeal.defs := congrArg (Pipeline.defs pcfgs) body_same

/-- The kernel as printed: its result is the zonotope of the argument, which ends as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v2) = zonotope (m ((c : Thread nD τ).loc main_arg0))
      ∧ r.2.mem ((c : Thread nD τ).loc main_arg0) = m ((c : Thread nD τ).loc main_arg0) := by
  rw [defs_same]
  exact Cert.KernelIdeal.Zono.run m ρ

end Cert.Kernel.Zono

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.KernelValue
public import proofs.«01_k».proof.Proof.ReferenceValue
public import proofs.«01_k».proof.Proof.Twins
public import Idealize.ShloMosaic.Lib.Quiescent
public import Idealize.ShloMosaic.Adequacy
public import Idealize.ShloMosaic.Init

@[expose] public section

noncomputable section

namespace Cert.Proof

open Idealize.ShloMosaic Idealize.SL.Sem Cert.Zonotope

/-- The kernel runs quietly and leaves its argument alone. -/
theorem kernel_frame : Cert.quiescent_Kernel := fun m ρ _ => Cert.Kernel.Gen.frame m ρ

/-- So does the idealized kernel. -/
theorem kernelIdeal_frame : Cert.quiescent_KernelIdeal := fun m ρ _ => Cert.KernelIdeal.Gen.frame m ρ

/-- So does the idealized reference, which has no semaphore at all. -/
theorem referenceIdeal_frame : Cert.quiescent_ReferenceIdeal := fun m ρ _ =>
  (θ_run Cert.ReferenceIdeal.defs _ _).mono (fun r h => ⟨fun c => (h c).2, sem_eq_zero_of_no_sems (by decide) r.2⟩) (Cert.ReferenceIdeal.Zono.run m ρ)

/-- And so does the reference. -/
theorem reference_frame : Cert.quiescent_Reference := fun m ρ _ =>
  (θ_run Cert.Reference.defs _ _).mono (fun r h => ⟨fun c => (h c).2, sem_eq_zero_of_no_sems (by decide) r.2⟩) (Cert.Reference.Zono.run m ρ)

/-- Over the extended reals, equal arguments give the idealized kernel and the idealized reference equal results:
    both leave the argument's zonotope. -/
theorem values_ideal : Cert.algebraic_KernelIdeal_ReferenceIdeal := by
  intro m g m' g' _ hagree
  refine ⟨fun c => zonotope (F := Ideal) (m (c.tc.loc Cert.KernelIdeal.main_arg0)), Cert.KernelIdeal.Zono.run m g, ?_⟩
  refine (θ_run Cert.ReferenceIdeal.defs _ _).mono (fun r h c => ⟨(h c).1.trans (congrArg zonotope (hagree c)), (h c).2⟩) (Cert.ReferenceIdeal.Zono.run m' g')

/-- At the machine's own floats too, bit for bit. -/
theorem values_bits : Cert.bitexact_Kernel_Reference := by
  intro m g m' g' _ hagree
  refine ⟨fun c => zonotope (F := Bits) (m (c.tc.loc Cert.Kernel.main_arg0)), Cert.Kernel.Zono.run m g, ?_⟩
  refine (θ_run Cert.Reference.defs _ _).mono (fun r h c => ⟨(h c).1.trans (congrArg zonotope (hagree c)), (h c).2⟩) (Cert.Reference.Zono.run m' g')

/-- All the claims together. -/
theorem claim : Cert.Claim := ⟨Cert.Kernel.Gen.facts, Cert.KernelIdeal.Gen.facts, Cert.ReferenceIdeal.Gen.facts, Cert.Reference.Gen.facts,
  kernel_frame, kernelIdeal_frame, referenceIdeal_frame, reference_frame, trivial, values_ideal, values_bits⟩

end Cert.Proof

end
